-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_f" .f32 0x3D1D89D9#32 ((26⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1024x200x26 : Shape := ⟨3, ![1024, 200, 26]⟩
abbrev S2x128 : Shape := ⟨2, ![2, 128]⟩
abbrev S_ : Shape := ⟨0, ![]⟩
abbrev S1x128 : Shape := ⟨2, ![1, 128]⟩
abbrev S128 : Shape := ⟨1, ![128]⟩

class Facts : Prop where
  bcast_S_S1024x200x26 : S_.BroadcastsInDim S1024x200x26 (![] : Fin 0 → Fin S1024x200x26.rank)
  reducesTo_S1024x200x26_S_d0_1_2 : S1024x200x26.ReducesTo [0, 1, 2] S_
  h_S_ : 0 < S_.numel
  slices_S2x128_S1x128_0_0 : S2x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn {F : FTy → Type} [FloatOps F] (main_arg0 : IVec S1024x200x26 32) (main_arg1 : FVec F S2x128 .f32) : IVec S_ 1 :=
  let main_c : IVec S_ 32 := constantI S_ 32 0#32
  let main_v0 : IVec S1024x200x26 32 := broadcastInDim S1024x200x26 ![] bcast_S_S1024x200x26 main_c
  let main_v1 : IVec S1024x200x26 1 := cmpi .sge main_arg0 main_v0
  let main_c_0 : IVec S_ 32 := constantI S_ 32 2#32
  let main_v2 : IVec S1024x200x26 32 := broadcastInDim S1024x200x26 ![] bcast_S_S1024x200x26 main_c_0
  let main_v3 : IVec S1024x200x26 1 := cmpi .slt main_arg0 main_v2
  let main_v4 : IVec S1024x200x26 1 := andi main_v1 main_v3
  let main_c_1 : IVec S_ 1 := constantI S_ 1 1#1
  let main_v5 : IVec S_ 1 := (fun x v => Host.reduce IntOp.andi x v reducesTo_S1024x200x26_S_d0_1_2 h_S_) main_v4 main_c_1
  let main_v6 : FVec F S1x128 .f32 := (extractStridedSlice S1x128 ![0, 0] · slices_S2x128_S1x128_0_0) main_arg1
  let main_v7 : FVec F S128 .f32 := shapeCast S128 main_v6 shapeCasts_S1x128_S128
  let main_v8 : FVec F S128 .f32 := Host.absf main_v7
  let main_cst : FVec F S_ .f32 := constant S_ .f32 0x7F800000#32
  let main_v9 : FVec F S128 .f32 := broadcastInDim S128 ![] bcast_S_S128 main_cst
  let main_v10 : IVec S128 1 := cmpf .olt main_v8 main_v9
  let main_c_2 : IVec S_ 1 := constantI S_ 1 1#1
  let main_v11 : IVec S_ 1 := (fun x v => Host.reduce IntOp.andi x v reducesTo_S128_S_d0 h_S_) main_v10 main_c_2
  let main_v12 : IVec S_ 1 := andi main_v5 main_v11
  main_v12
-- ==== Kernel.lean ====
abbrev S1024x200x26 : Shape := ⟨3, ![1024, 200, 26]⟩
abbrev S2x128 : Shape := ⟨2, ![2, 128]⟩
abbrev S200x128 : Shape := ⟨2, ![200, 128]⟩
abbrev S1x128 : Shape := ⟨2, ![1, 128]⟩
abbrev S128 : Shape := ⟨1, ![128]⟩
abbrev S40x40 : Shape := ⟨2, ![40, 40]⟩
abbrev S_ : Shape := ⟨0, ![]⟩
abbrev S40x1x40x1 : Shape := ⟨4, ![40, 1, 40, 1]⟩
abbrev S1x1x1x128 : Shape := ⟨4, ![1, 1, 1, 128]⟩
abbrev S40x1x40x128 : Shape := ⟨4, ![40, 1, 40, 128]⟩
abbrev S40x5120 : Shape := ⟨2, ![40, 5120]⟩
abbrev S5200x256 : Shape := ⟨2, ![5200, 256]⟩
abbrev S1024x5200 : Shape := ⟨2, ![1024, 5200]⟩
abbrev S1024x200x128 : Shape := ⟨3, ![1024, 200, 128]⟩
abbrev S128x5200 : Shape := ⟨2, ![128, 5200]⟩
abbrev S128x200x128 : Shape := ⟨3, ![128, 200, 128]⟩
abbrev S128x256 : Shape := ⟨2, ![128, 256]⟩
abbrev S128x40 : Shape := ⟨2, ![128, 40]⟩
abbrev S128x5120 : Shape := ⟨2, ![128, 5120]⟩
abbrev S128x40x128 : Shape := ⟨3, ![128, 40, 128]⟩
abbrev S40x128 : Shape := ⟨2, ![40, 128]⟩
abbrev S1x40x128 : Shape := ⟨3, ![1, 40, 128]⟩

abbrev nBuf : Space → Nat
  | .hbm => 35
  | .vmem => 8
  | .smem => 0
  | _ => 0

abbrev bufTy : (tb : Table) → Fin (tcTables nBuf tb) → BufTy
  | .hbm, ⟨0, _⟩ => ⟨S1024x200x26, .i32⟩
  | .hbm, ⟨1, _⟩ => ⟨S2x128, .f32⟩
  | .hbm, ⟨2, _⟩ => ⟨S200x128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128, .f32⟩
  | .hbm, ⟨8, _⟩ => ⟨S40x40, .i32⟩
  | .hbm, ⟨9, _⟩ => ⟨S40x40, .i32⟩
  | .hbm, ⟨10, _⟩ => ⟨S_, .i32⟩
  | .hbm, ⟨11, _⟩ => ⟨S40x40, .i32⟩
  | .hbm, ⟨12, _⟩ => ⟨S40x40, .i32⟩
  | .hbm, ⟨13, _⟩ => ⟨S40x40, .i1⟩
  | .hbm, ⟨14, _⟩ => ⟨S40x40, .f32⟩
  | .hbm, ⟨15, _⟩ => ⟨S1x128, .f32⟩
  | .hbm, ⟨16, _⟩ => ⟨S40x1x40x1, .f32⟩
  | .hbm, ⟨17, _⟩ => ⟨S1x1x1x128, .f32⟩
  | .hbm, ⟨18, _⟩ => ⟨S40x1x40x128, .f32⟩
  | .hbm, ⟨19, _⟩ => ⟨S40x1x40x128, .f32⟩
  | .hbm, ⟨20, _⟩ => ⟨S40x1x40x128, .f32⟩
  | .hbm, ⟨21, _⟩ => ⟨S40x5120, .f32⟩
  | .hbm, ⟨22, _⟩ => ⟨S5200x256, .i32⟩
  | .hbm, ⟨23, _⟩ => ⟨S5200x256, .i32⟩
  | .hbm, ⟨24, _⟩ => ⟨S_, .i32⟩
  | .hbm, ⟨25, _⟩ => ⟨S5200x256, .i32⟩
  | .hbm, ⟨26, _⟩ => ⟨S5200x256, .i32⟩
  | .hbm, ⟨27, _⟩ => ⟨S5200x256, .i1⟩
  | .hbm, ⟨28, _⟩ => ⟨S_, .f32⟩
  | .hbm, ⟨29, _⟩ => ⟨S_, .f32⟩
  | .hbm, ⟨30, _⟩ => ⟨S5200x256, .f32⟩
  | .hbm, ⟨31, _⟩ => ⟨S5200x256, .f32⟩
  | .hbm, ⟨32, _⟩ => ⟨S5200x256, .f32⟩
  | .hbm, ⟨33, _⟩ => ⟨S1024x5200, .i32⟩
  | .hbm, ⟨34, _⟩ => ⟨S1024x200x128, .f32⟩
  | .local _ .vmem, ⟨0, _⟩ => ⟨S128x5200, .i32⟩
  | .local _ .vmem, ⟨1, _⟩ => ⟨S128x5200, .i32⟩
  | .local _ .vmem, ⟨2, _⟩ => ⟨S2x128, .f32⟩
  | .local _ .vmem, ⟨3, _⟩ => ⟨S5200x256, .f32⟩
  | .local _ .vmem, ⟨4, _⟩ => ⟨S40x5120, .f32⟩
  | .local _ .vmem, ⟨5, _⟩ => ⟨S200x128, .f32⟩
  | .local _ .vmem, ⟨6, _⟩ => ⟨S128x200x128, .f32⟩
  | .local _ .vmem, ⟨7, _⟩ => ⟨S128x200x128, .f32⟩
  | _, _ => ⟨S1024x200x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x5200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5200x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_f" => some ((26⁻¹ : ℝ) : EReal)
  | _ => none
-- ==== ReferenceIdeal.lean ====
abbrev S1024x200x26 : Shape := ⟨3, ![1024, 200, 26]⟩
abbrev S2x128 : Shape := ⟨2, ![2, 128]⟩
abbrev S500x128 : Shape := ⟨2, ![500, 128]⟩
abbrev S1x500x128 : Shape := ⟨3, ![1, 500, 128]⟩
abbrev S_ : Shape := ⟨0, ![]⟩
abbrev S1024x200x26x1 : Shape := ⟨4, ![1024, 200, 26, 1]⟩
abbrev S1 : Shape := ⟨1, ![1]⟩
abbrev S1x1x1x1 : Shape := ⟨4, ![1, 1, 1, 1]⟩
abbrev S1024x200x26x128 : Shape := ⟨4, ![1024, 200, 26, 128]⟩
abbrev S1024x200x128 : Shape := ⟨3, ![1024, 200, 128]⟩
abbrev S1x200x128 : Shape := ⟨3, ![1, 200, 128]⟩

abbrev nBuf : Space → Nat
  | .hbm => 35
  | .vmem => 0
  | .smem => 0
  | _ => 0

abbrev bufTy : (tb : Table) → Fin (tcTables nBuf tb) → BufTy
  | .hbm, ⟨0, _⟩ => ⟨S1024x200x26, .i32⟩
  | .hbm, ⟨1, _⟩ => ⟨S2x128, .f32⟩
  | .hbm, ⟨2, _⟩ => ⟨S500x128, .f32⟩
  | .hbm, ⟨3, _⟩ => ⟨S1x500x128, .f32⟩
  | .hbm, ⟨4, _⟩ => ⟨S_, .i32⟩
  | .hbm, ⟨5, _⟩ => ⟨S1024x200x26, .i32⟩
  | .hbm, ⟨6, _⟩ => ⟨S1024x200x26, .i1⟩
  | .hbm, ⟨7, _⟩ => ⟨S_, .i32⟩
  | .hbm, ⟨8, _⟩ => ⟨S1024x200x26, .i32⟩
  | .hbm, ⟨9, _⟩ => ⟨S1024x200x26, .i32⟩
  | .hbm, ⟨10, _⟩ => ⟨S1024x200x26, .i32⟩
  | .hbm, ⟨11, _⟩ => ⟨S1024x200x26x1, .i32⟩
  | .hbm, ⟨12, _⟩ => ⟨S1, .i32⟩
  | .hbm, ⟨13, _⟩ => ⟨S_, .i32⟩
  | .hbm, ⟨14, _⟩ => ⟨S1024x200x26x1, .i32⟩
  | .hbm, ⟨15, _⟩ => ⟨S1024x200x26x1, .i1⟩
  | .hbm, ⟨16, _⟩ => ⟨S1x1x1x1, .i32⟩
  | .hbm, ⟨17, _⟩ => ⟨S1024x200x26x1, .i32⟩
  | .hbm, ⟨18, _⟩ => ⟨S1024x200x26x1, .i1⟩
  | .hbm, ⟨19, _⟩ => ⟨S1024x200x26x1, .i1⟩
  | .hbm, ⟨20, _⟩ => ⟨S_, .i1⟩
  | .hbm, ⟨21, _⟩ => ⟨S1024x200x26, .i1⟩
  | .hbm, ⟨22, _⟩ => ⟨S1024x200x26x128, .f32⟩
  | .hbm, ⟨23, _⟩ => ⟨S1024x200x26x128, .i1⟩
  | .hbm, ⟨24, _⟩ => ⟨S_, .f32⟩
  | .hbm, ⟨25, _⟩ => ⟨S1024x200x26x128, .f32⟩
  | .hbm, ⟨26, _⟩ => ⟨S1024x200x26x128, .f32⟩
  | .hbm, ⟨27, _⟩ => ⟨S_, .f32⟩
  | .hbm, ⟨28, _⟩ => ⟨S1024x200x128, .f32⟩
  | .hbm, ⟨29, _⟩ => ⟨S_, .f32⟩
  | .hbm, ⟨30, _⟩ => ⟨S1024x200x128, .f32⟩
  | .hbm, ⟨31, _⟩ => ⟨S1024x200x128, .f32⟩
  | .hbm, ⟨32, _⟩ => ⟨S1x200x128, .f32⟩
  | .hbm, ⟨33, _⟩ => ⟨S1024x200x128, .f32⟩
  | .hbm, ⟨34, _⟩ => ⟨S1024x200x128, .f32⟩
  | _, _ => ⟨S1024x200x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]
-- ==== Proof.Arith.lean ====
/- The arithmetic of the claim, on the extended reals and free of any program.

   The kernel multiplies the count of ones by a twenty-sixth of the difference of the two table rows and adds the base
   `p + e0`; the reference averages the twenty-six rows it picked and adds `p`. `mean_law` is that equation. The other
   lemmas say how the kernel's two contractions with a 0/1 matrix collapse: `sum_rows` (the summing matrix) and
   `sum_unit` (the unit matrix that the difference was multiplied onto). -/
module

public import Idealize.ShloMosaic.PureOps.Ideal
public import Mathlib.Data.EReal.Operations
public import Mathlib.Algebra.BigOperators.Fin

@[expose] public section

noncomputable section

namespace Cert.Hand

open Idealize.ShloMosaic
open scoped BigOperators

/-- Picking `a` where `P` holds and `b` elsewhere, and adding up: so many times `a` plus so many times `b`. -/
theorem sum_pick {n : ℕ} (P : Fin n → Prop) [DecidablePred P] (a b : EReal) :
    ∑ f, (if P f then a else b)
      = (((Finset.univ.filter P).card : ℕ) : EReal) * a + (((Finset.univ.filter fun f => ¬P f).card : ℕ) : EReal) * b := by
  rw [Finset.sum_ite, Finset.sum_const, Finset.sum_const, EReal.nsmul_eq_mul, EReal.nsmul_eq_mul]

/-- `n` rows `e1` among twenty-six, the others a finite `e0`: their mean is `e0` plus `n` twenty-sixths of the difference. -/
theorem pick_mean (n k : ℕ) (hnk : n + k = 26) (e0 : ℝ) (e1 : EReal) :
    (n : EReal) * ((e1 - (e0 : EReal)) * ((26⁻¹ : ℝ) : EReal)) + (e0 : EReal)
      = ((n : EReal) * e1 + (k : EReal) * (e0 : EReal)) * ((1 / 26 : ℝ) : EReal) := by
  have hk : (k : ℝ) = 26 - n := by
    have : ((n + k : ℕ) : ℝ) = 26 := by rw [hnk]; norm_num
    push_cast at this; linarith
  have hn' : (n : EReal) = ((n : ℝ) : EReal) := rfl
  have hk' : (k : EReal) = ((k : ℝ) : EReal) := rfl
  rw [hn', hk']
  rcases Nat.eq_zero_or_pos n with h0 | hpos
  · subst h0
    rw [show ((0 : ℕ) : ℝ) = 0 from Nat.cast_zero, EReal.coe_zero, zero_mul, zero_add, zero_mul, zero_add, hk, ← EReal.coe_mul, ← EReal.coe_mul]
    congr 1; push_cast; ring
  · have hr : (0 : ℝ) < (n : ℝ) := Nat.cast_pos.mpr hpos
    induction e1 with
    | coe x =>
      rw [hk, ← EReal.coe_sub, ← EReal.coe_mul, ← EReal.coe_mul, ← EReal.coe_add, ← EReal.coe_mul, ← EReal.coe_mul,
        ← EReal.coe_add, ← EReal.coe_mul]
      congr 1; ring
    | top =>
      rw [EReal.top_sub_coe, EReal.top_mul_coe_of_pos (by norm_num), EReal.coe_mul_top_of_pos hr, EReal.top_add_coe,
        ← EReal.coe_mul, EReal.top_add_coe, EReal.top_mul_coe_of_pos (by norm_num)]
    | bot =>
      rw [EReal.bot_sub, EReal.bot_mul_coe_of_pos (by norm_num), EReal.coe_mul_bot_of_pos hr, EReal.bot_add,
        EReal.bot_add, EReal.bot_mul_coe_of_pos (by norm_num)]

/-- A sum of terms that are one or zero is the number of ones. -/
theorem sum_ones {n : ℕ} (P : Fin n → Prop) [DecidablePred P] :
    ∑ f, (if P f then (1 : EReal) else 0) = (((Finset.univ.filter P).card : ℕ) : EReal) := by
  rw [sum_pick, mul_one, mul_zero, add_zero]

/-- THE EQUATION. Row `e0` of the table is finite; nothing is asked of row `e1` or of the positional term `p`. -/
theorem mean_law (P : Fin 26 → Prop) [DecidablePred P] (e0 : ℝ) (e1 p : EReal) :
    (∑ f, (if P f then (1 : EReal) else 0)) * ((e1 - (e0 : EReal)) * ((26⁻¹ : ℝ) : EReal)) + (p + (e0 : EReal))
      = Ideal.div (∑ f, (if P f then e1 else (e0 : EReal))) ((26 : ℝ) : EReal) + p := by
  rw [sum_ones, Ideal.div_coe (by norm_num), sum_pick, ← pick_mean _ _ ?_ e0 e1]
  · rw [add_comm p, ← add_assoc]
  · rw [Finset.card_filter_add_card_filter_not]; simp

/-- A product with the summing matrix, whose column `n` has a one in the rows `26 n … 26 n + 25`: the sum of those rows. -/
theorem sum_rows (g : Fin 5200 → EReal) (n : ℕ) (hn : n < 200) :
    ∑ k : Fin 5200, g k * (if k.val / 26 = n then 1 else 0)
      = ∑ f : Fin 26, g ⟨n * 26 + f.val, by omega⟩ := by
  have e : ∑ k : Fin 5200, g k * (if k.val / 26 = n then 1 else 0)
      = ∑ j : Fin 200, ∑ f : Fin 26, g ⟨j.val * 26 + f.val, by omega⟩ * (if (j.val * 26 + f.val) / 26 = n then 1 else 0) := by
    rw [← Fintype.sum_prod_type', ← Equiv.sum_comp (finProdFinEquiv (m := 200) (n := 26))]
    refine Finset.sum_congr rfl fun p _ => ?_
    have hv : (finProdFinEquiv p).val = p.1.val * 26 + p.2.val := by
      rw [finProdFinEquiv_apply_val]; omega
    have he : finProdFinEquiv p = ⟨p.1.val * 26 + p.2.val, by omega⟩ := Fin.ext hv
    rw [he]
  rw [e, Finset.sum_eq_single (⟨n, hn⟩ : Fin 200)]
  · refine Finset.sum_congr rfl fun f _ => ?_
    rw [if_pos (by show (n * 26 + f.val) / 26 = n; omega), mul_one]
  · intro j _ hj
    refine Finset.sum_eq_zero fun f _ => ?_
    rw [if_neg (fun h => hj (Fin.ext (by show j.val = n; omega))), mul_zero]
  · intro h; exact absurd (Finset.mem_univ _) h

/-- A product with the unit matrix, its rows scaled: only the diagonal term stays. -/
theorem sum_unit (s : Fin 40 → EReal) (r : Fin 40) (a i : EReal) :
    ∑ k : Fin 40, s k * ((if k = r then 1 else 0) * a * i) = s r * (a * i) := by
  rw [Finset.sum_eq_single r]
  · rw [if_pos rfl, one_mul]
  · intro k _ hk
    rw [if_neg hk, zero_mul, zero_mul, mul_zero]
  · intro h; exact absurd (Finset.mem_univ _) h

end Cert.Hand

end
-- ==== Proof.Block.lean ====
/- What one block of the kernel computes.

   The body stores five payloads, one per group of forty positions. Each is the same function of the group's number:
   `cell`, the contraction of the group's columns of `mask · summing matrix` with the scaled product matrix, plus the base.
   `out_apply` reads the body's whole result at an index. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen Idealize.ShloMosaic Idealize.ShloMosaic.TcCoe
open scoped BigOperators

/-- The named constant at its value: a twenty-sixth. -/
abbrev inv26 : EReal := ((26⁻¹ : ℝ) : EReal)

/-- The count the kernel takes of row `b`'s mask words through column `n` of the summing matrix. -/
def count (x0 : Vec Ideal S128x5200 .i32) (x2 : Vec Ideal S5200x256 .f32) (b : Fin 128) (n : Fin 256) : EReal :=
  ∑ q : Fin 5200, (((x0 (ix2 b q)).toInt : ℝ) : EReal) * x2 (ix2 q n)

/-- One element of a payload: group `j`, position `r` of the group. -/
def cell (x0 : Vec Ideal S128x5200 .i32) (x1 : Vec Ideal S2x128 .f32) (x2 : Vec Ideal S5200x256 .f32)
    (x3 : Vec Ideal S40x5120 .f32) (x4 : Vec Ideal S200x128 .f32) (j : Fin 5) (b : Fin 128) (r : Fin 40) (d : Fin 128) : EReal :=
  (∑ k : Fin 40, count x0 x2 b ⟨40 * j.val + k.val, by omega⟩ * (x3 (ix2 k ⟨r.val * 128 + d.val, by omega⟩) * inv26))
    + (x4 (ix2 ⟨40 * j.val + r.val, by omega⟩ d) + x1 (ix2 0 d))

variable (x0 : Vec Ideal S128x5200 .i32) (x1 : Vec Ideal S2x128 .f32) (x2 : Vec Ideal S5200x256 .f32)
  (x3 : Vec Ideal S40x5120 .f32) (x4 : Vec Ideal S200x128 .f32)

theorem named_val : (Named.named κ "inv_f" 0x3D1D89D9#32 : Ideal .f32) = inv26 :=
  IdealRules.named_const.ideal_named_scalar _ _ _ _ rfl

/-- The mask's product with the summing matrix. -/
theorem pay6_apply (b : Fin 128) (n : Fin 256) : k0_pay6 (F := Ideal) x0 x2 (ix2 b n) = count x0 x2 b n := by
  pointwise [k0_pay6, count]
  rfl

/-- The scaled product matrix. -/
theorem pay5_apply (k : Fin 40) (c : Fin 5120) : k0_pay5 (F := Ideal) x3 (ix2 k c) = x3 (ix2 k c) * inv26 := by
  pointwise [k0_pay5, named_val]

/-- The base: the positional row plus row 0 of the table. -/
theorem pay4_apply (v0 : Vec Ideal S1x128 .f32) (l : Fin 200) (d : Fin 128) :
    k0_pay4 (F := Ideal) v0 x4 (ix2 l d) = x4 (ix2 l d) + v0 (ix2 0 d) := by
  pointwise [k0_pay4]

/-- The loads of whole blocks read them whole; the load of row 0 reads row 0. -/
theorem ld0 : View.ld x0 r0_3 = x0 := View.ld_unit_zero (funext fun a => by fin_cases a <;> rfl) _ _
theorem ld2 : View.ld x2 r0_4 = x2 := View.ld_unit_zero (funext fun a => by fin_cases a <;> rfl) _ _
theorem ld3 : View.ld x3 r0_2 = x3 := View.ld_unit_zero (funext fun a => by fin_cases a <;> rfl) _ _
theorem ld4 : View.ld x4 r0_1 = x4 := View.ld_unit_zero (funext fun a => by fin_cases a <;> rfl) _ _
theorem ld1 (d : Fin 128) : View.ld x1 r0_0 (ix2 0 d) = x1 (ix2 0 d) := by
  pointwise

/-- The five payloads at an index: `cell` at the group's number. -/
theorem pay7_apply (v0 : Vec Ideal S1x128 .f32) (h : ∀ d, v0 (ix2 0 d) = x1 (ix2 0 d)) (b : Fin 128) (r : Fin 40) (d : Fin 128) :
    k0_pay7 (F := Ideal) v0 x4 x3 x0 x2 (ix3 b r d) = cell x0 x1 x2 x3 x4 0 b r d := by
  pointwise [k0_pay7, cell, pay4_apply, pay5_apply, pay6_apply, h]

theorem pay8_apply (v0 : Vec Ideal S1x128 .f32) (h : ∀ d, v0 (ix2 0 d) = x1 (ix2 0 d)) (b : Fin 128) (r : Fin 40) (d : Fin 128) :
    k0_pay8 (F := Ideal) v0 x4 x3 x0 x2 (ix3 b r d) = cell x0 x1 x2 x3 x4 1 b r d := by
  pointwise [k0_pay8, cell, pay4_apply, pay5_apply, pay6_apply, h]

theorem pay1_apply (v0 : Vec Ideal S1x128 .f32) (h : ∀ d, v0 (ix2 0 d) = x1 (ix2 0 d)) (b : Fin 128) (r : Fin 40) (d : Fin 128) :
    k0_pay1 (F := Ideal) (k0_pay9 x3 x0 x2) (k0_pay10 v0 x4) (ix3 b r d) = cell x0 x1 x2 x3 x4 2 b r d := by
  pointwise [k0_pay1, k0_pay9, k0_pay10, cell, pay4_apply, pay5_apply, pay6_apply, h]

theorem pay2_apply (v0 : Vec Ideal S1x128 .f32) (h : ∀ d, v0 (ix2 0 d) = x1 (ix2 0 d)) (b : Fin 128) (r : Fin 40) (d : Fin 128) :
    k0_pay2 (F := Ideal) (k0_pay4 v0 x4) (k0_pay5 x3) (k0_pay6 x0 x2) (ix3 b r d) = cell x0 x1 x2 x3 x4 3 b r d := by
  pointwise [k0_pay2, cell, pay4_apply, pay5_apply, pay6_apply, h]

theorem pay3_apply (v0 : Vec Ideal S1x128 .f32) (h : ∀ d, v0 (ix2 0 d) = x1 (ix2 0 d)) (b : Fin 128) (r : Fin 40) (d : Fin 128) :
    k0_pay3 (F := Ideal) (k0_pay4 v0 x4) (k0_pay5 x3) (k0_pay6 x0 x2) (ix3 b r d) = cell x0 x1 x2 x3 x4 4 b r d := by
  pointwise [k0_pay3, cell, pay4_apply, pay5_apply, pay6_apply, h]

/-- The whole block as one function of its index. -/
def blockVal (y : S128x200x128.Idx) : Elt Ideal .f32 :=
  cell x0 x1 x2 x3 x4 ⟨(y 1).val / 40, by have : (y 1).val < 200 := (y 1).isLt; omega⟩ ⟨(y 0).val, (y 0).isLt⟩
    ⟨(y 1).val % 40, by omega⟩ ⟨(y 2).val, (y 2).isLt⟩

/-- `blockVal` at the position `40 j + r`: the `j`-th group's cell. -/
theorem cell_eq_blockVal (j : Fin 5) (b : Fin 128) (r : Fin 40) (d : Fin 128) (y : S128x200x128.Idx)
    (h0 : (y 0).val = b.val) (h1 : (y 1).val = 40 * j.val + r.val) (h2 : (y 2).val = d.val) :
    cell x0 x1 x2 x3 x4 j b r d = blockVal x0 x1 x2 x3 x4 y := by
  unfold blockVal
  congr 1
  · exact Fin.ext (by show j.val = (y 1).val / 40; omega)
  · exact Fin.ext h0.symm
  · exact Fin.ext (by show r.val = (y 1).val % 40; omega)
  · exact Fin.ext h2.symm

/-- The body's result is that function: each of the five stores writes its part of it, and together they fill the block. -/
theorem out_apply (y : S128x200x128.Idx) : out0_5 (F := Ideal) x0 x1 x2 x3 x4 y = blockVal x0 x1 x2 x3 x4 y := by
  unfold out0_5 k0_pay11 k0_pay12 k0_pay13
  rw [ld0, ld2, ld3, ld4]
  refine View.canon_apply_of_pieces (Val := Elt Ideal) (e := .f32) (blockVal x0 x1 x2 x3 x4) _ ?_ y (cover0_5 _ _ _ _ _ y)
  intro p hp
  simp only [List.mem_cons, List.not_mem_nil, or_false] at hp
  rcases hp with rfl | rfl | rfl | rfl | rfl
  all_goals intro x
  all_goals obtain ⟨b, r, d, rfl⟩ : ∃ (b : Fin 128) (r : Fin 40) (d : Fin 128), x = ix3 b r d := ⟨x 0, x 1, x 2, eq_ix3 x⟩
  · exact (pay3_apply x0 x1 x2 x3 x4 _ (ld1 x1) b r d).trans (cell_eq_blockVal x0 x1 x2 x3 x4 4 b r d _
      (by show 0 + 1 * b.val = b.val; omega) (by show 160 + 1 * r.val = 40 * 4 + r.val; omega) (by show 0 + 1 * d.val = d.val; omega))
  · exact (pay2_apply x0 x1 x2 x3 x4 _ (ld1 x1) b r d).trans (cell_eq_blockVal x0 x1 x2 x3 x4 3 b r d _
      (by show 0 + 1 * b.val = b.val; omega) (by show 120 + 1 * r.val = 40 * 3 + r.val; omega) (by show 0 + 1 * d.val = d.val; omega))
  · exact (pay1_apply x0 x1 x2 x3 x4 _ (ld1 x1) b r d).trans (cell_eq_blockVal x0 x1 x2 x3 x4 2 b r d _
      (by show 0 + 1 * b.val = b.val; omega) (by show 80 + 1 * r.val = 40 * 2 + r.val; omega) (by show 0 + 1 * d.val = d.val; omega))
  · exact (pay8_apply x0 x1 x2 x3 x4 _ (ld1 x1) b r d).trans (cell_eq_blockVal x0 x1 x2 x3 x4 1 b r d _
      (by show 0 + 1 * b.val = b.val; omega) (by show 40 + 1 * r.val = 40 * 1 + r.val; omega) (by show 0 + 1 * d.val = d.val; omega))
  · exact (pay7_apply x0 x1 x2 x3 x4 _ (ld1 x1) b r d).trans (cell_eq_blockVal x0 x1 x2 x3 x4 0 b r d _
      (by show 0 + 1 * b.val = b.val; omega) (by show 0 + 1 * r.val = 40 * 0 + r.val; omega) (by show 0 + 1 * d.val = d.val; omega))

end Cert.KernelIdeal.Hand

end
-- ==== Proof.Host.lean ====
/- What the host's operations leave for the kernel, read at an index.

   The mask is flattened; the summing matrix has a one at `(q, n)` when `q / 26 = n`; the product matrix holds, at row `k`
   and column `128 r + d`, the difference of the table's two rows at `d` when `k = r` and zero elsewhere. -/
module

public import proofs.«01_k».proof.Proof.Gen.KernelIdeal.Frame
public import Idealize.ShloMosaic.Lib.Pointwise
public import Idealize.ShloMosaic.Lib.StableHlo.ReadAt
public import Idealize.ShloMosaic.Lib.Affine

@[expose] public section

set_option maxRecDepth 16384

noncomputable section

namespace Cert.KernelIdeal.Hand

open Cert.KernelIdeal Cert.KernelIdeal.Gen Idealize.ShloMosaic Idealize.ShloMosaic.TcCoe

/-- A selection by a comparison for equality. -/
theorem select_eq {α : Type} (w : ℕ) (x y : BitVec w) (a b : α) :
    (if IntOp.cmpi .eq x y = 1#1 then a else b) = if x = y then a else b := by
  by_cases h : x = y
  · rw [if_pos h, if_pos (IntOp.cmpi_eq.mpr h)]
  · rw [if_neg h, if_neg (fun e => h (IntOp.cmpi_eq.mp e))]

/-- The host's signed quotient of a small position by 26 is the natural quotient. -/
theorem div26 (q : ℕ) (hq : q < 5200) : IntOp.divsi .host (BitVec.ofNat 32 q) 26#32 = BitVec.ofNat 32 (q / 26) := by
  have hc : ¬ IntOp.SDivCorner (BitVec.ofNat 32 q) 26#32 := by
    rintro (h | ⟨-, h⟩) <;> exact absurd h (by decide)
  have hm : (BitVec.ofNat 32 q).msb = false := by
    rw [BitVec.msb_eq_false_iff_two_mul_lt, BitVec.toNat_ofNat]; omega
  have hd : (26#32 : BitVec 32).msb = false := by decide
  rw [IntOp.divsi, if_neg hc, BitVec.sdiv_eq, hm, hd]
  apply BitVec.eq_of_toNat_eq
  have h1 : q % 2 ^ 32 = q := Nat.mod_eq_of_lt (by omega)
  have h2 : q / 26 % 2 ^ 32 = q / 26 := Nat.mod_eq_of_lt (by omega)
  show (BitVec.ofNat 32 q / 26#32).toNat = _
  rw [BitVec.toNat_udiv, BitVec.toNat_ofNat, h1, BitVec.toNat_ofNat (q / 26), h2]
  rfl

/-- Small positions are equal exactly when their words are. -/
theorem ofNat_eq (a b : ℕ) (ha : a < 2 ^ 32) (hb : b < 2 ^ 32) : BitVec.ofNat 32 a = BitVec.ofNat 32 b ↔ a = b := by
  constructor
  · intro h
    have := congrArg BitVec.toNat h
    simpa only [BitVec.toNat_ofNat, Nat.mod_eq_of_lt ha, Nat.mod_eq_of_lt hb] using this
  · rintro rfl; rfl

/-- The bit of an equality of positions, as a number: one on the diagonal. -/
theorem unit_word (k r : ℕ) (hk : k < 40) (hr : r < 40) :
    (FloatOps.uitofp .f32 (IntOp.cmpi .eq (BitVec.ofNat 32 k) (BitVec.ofNat 32 r)) : Ideal .f32) = if k = r then (1 : EReal) else 0 := by
  show (((IntOp.cmpi .eq (BitVec.ofNat 32 k) (BitVec.ofNat 32 r)).toNat : ℝ) : EReal) = _
  have he := (IntOp.cmpi_eq (x := BitVec.ofNat 32 k) (y := BitVec.ofNat 32 r)).trans (ofNat_eq k r (by omega) (by omega))
  rcases BitVec.eq_zero_or_eq_one (IntOp.cmpi .eq (BitVec.ofNat 32 k) (BitVec.ofNat 32 r)) with e | e
  · rw [if_neg (fun h => absurd (e.symm.trans (he.mpr h)) (by decide)), e]; simp
  · rw [if_pos (he.mp e), e]; simp

variable (m : (ℓ : Loc nD τ sig) → Buf (Elt Ideal) ℓ) (c : Dev nD)

/-- The mask as the region finds it. -/
abbrev maskA : IVec S1024x200x26 32 := m ((c : Thread nD τ).loc main_arg0)
/-- The two-row table as the region finds it. -/
abbrev tabA : FVec Ideal S2x128 .f32 := m ((c : Thread nD τ).loc main_arg1)

/-- The flattened mask: column `26 l + f` of row `b` is the mask's word at `(b, l, f)`. -/
theorem V_mask (b : Fin 1024) (l : Fin 200) (f : Fin 26) :
    (V (F := Ideal) m c main_v19 : IVec S1024x5200 32) (ix2 b ⟨l.val * 26 + f.val, by omega⟩) = maskA m c (ix3 b l f) := by
  unfold V
  after_reads_at

/-- The summing matrix. -/
theorem V_sums (q : Fin 5200) (n : Fin 256) :
    (V (F := Ideal) m c main_v18 : FVec Ideal S5200x256 .f32) (ix2 q n) = if q.val / 26 = n.val then (1 : EReal) else 0 := by
  unfold V
  after_reads_at
  rw [div26 q.val q.isLt]
  refine (select_eq 32 _ _ _ _).trans ?_
  exact if_congr (ofNat_eq _ _ (by omega) (by omega)) rfl rfl

/-- The product matrix: the unit matrix times the difference of the table's rows. -/
theorem V_prod (k r : Fin 40) (d : Fin 128) :
    (V (F := Ideal) m c main_v12 : FVec Ideal S40x5120 .f32) (ix2 k ⟨r.val * 128 + d.val, by omega⟩)
      = (if k = r then (1 : EReal) else 0) * (tabA m c (ix2 1 d) - tabA m c (ix2 0 d)) := by
  unfold V
  after_reads_at
  congr 1
  rw [show IntOp.addi (BitVec.ofNat 32 k.val) 0#32 = BitVec.ofNat 32 k.val from BitVec.add_zero _]
  exact unit_word k.val r.val k.isLt r.isLt |>.trans (if_congr Fin.ext_iff.symm rfl rfl)

/-- The positional table. -/
theorem V_pos (l : Fin 200) (d : Fin 128) :
    (V (F := Ideal) m c main_cst : FVec Ideal S200x128 .f32) (ix2 l d) = Ideal.ofBits .f32 (lit0 (S200x128.rowMajor (ix2 l d))) := by
  unfold V
  after_reads_at

end Cert.KernelIdeal.Hand

end
-- ==== Proof.Array.lean ====
/- What the kernel's result array holds after the run, at every index.

   `atIndex` is the value in terms of the arguments; `block_value` says a point's block of inputs gives it, and `final`
   that the eight blocks, tiling the array, leave it everywhere. -/
module

public import proofs.«01_k».proof.Proof.Gen.KernelIdeal.Value
public import proofs.«01_k».proof.Proof.Arith
public import proofs.«01_k».proof.Proof.Block
public import proofs.«01_k».proof.Proof.Host

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open scoped BigOperators

variable (m : (ℓ : Loc nD τ sig) → Buf (Elt Ideal) ℓ) (ρ : Dev nD → PrngReg) (c : Dev nD)

/-- The kernel's value at `(b, l, d)`: the sum of the twenty-six mask words times a twenty-sixth of the rows' difference,
    plus the positional term and row 0. -/
def atIndex (b : Fin 1024) (l : Fin 200) (d : Fin 128) : EReal :=
  (∑ f : Fin 26, (((maskA m c (ix3 b l f)).toInt : ℝ) : EReal)) * ((tabA m c (ix2 1 d) - tabA m c (ix2 0 d)) * inv26)
    + (Ideal.ofBits .f32 (lit0 (S200x128.rowMajor (ix2 l d))) + tabA m c (ix2 0 d))

/-- The grid has eight points. -/
theorem point_lt (t : Fin cfg0.N) : t.val < 8 := t.isLt.trans_eq N_0

/-! ## The input blocks of a point -/

/-- The mask's block index at a point: the point's number down the rows. -/
theorem index_mask : ∀ t : Fin cfg0.N, win0_0.index t 0 = t.val ∧ win0_0.index t 1 = 0 :=
  (by decide +kernel : ∀ t : Fin grid0.N, win0_0.index t 0 = t.val ∧ win0_0.index t 1 = 0)
/-- The other inputs' block index is zero: each block is its whole array. -/
theorem index_rest : ∀ t : Fin cfg0.N, (∀ a, win0_1.index t a = 0) ∧ (∀ a, win0_2.index t a = 0) ∧ (∀ a, win0_3.index t a = 0) ∧ ∀ a, win0_4.index t a = 0 :=
  (by decide +kernel : ∀ t : Fin grid0.N, (∀ a, win0_1.index t a = 0) ∧ (∀ a, win0_2.index t a = 0) ∧ (∀ a, win0_3.index t a = 0) ∧ ∀ a, win0_4.index t a = 0)
/-- The result's block index at a point: the point's number down the batch axis. -/
theorem index_out : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- The mask's block: rows `128 t … 128 t + 127` of the flattened mask. -/
theorem block_mask (t : Fin cfg0.N) (b : Fin 128) (q : Fin 5200) :
    (iblk (F := Ideal) m c 0 t : Vec Ideal S128x5200 .i32) (ix2 b q)
      = (V (F := Ideal) m c main_v19 : IVec S1024x5200 32) (ix2 ⟨t.val * 128 + b.val, by have := point_lt t; omega⟩ q) := by
  show (V (F := Ideal) m c main_v19 : IVec S1024x5200 32) ((win0_0.rect t).emb (ix2 b q)) = _
  congr 1
  funext a
  refine Fin.ext ?_
  rw [win0_0.rect_emb_val t (ix2 b q) a]
  fin_cases a
  · show win0_0.index t 0 * 128 + b.val = t.val * 128 + b.val
    rw [(index_mask t).1]
  · show win0_0.index t 1 * 5200 + q.val = q.val
    rw [(index_mask t).2, Nat.zero_mul, Nat.zero_add]

/-- The other blocks are their arrays. -/
theorem block_tab (t : Fin cfg0.N) : (iblk (F := Ideal) m c 1 t : Vec Ideal S2x128 .f32) = V (F := Ideal) m c main_arg1 :=
  funext fun y => congrArg (V (F := Ideal) m c main_arg1 : Vec Ideal S2x128 .f32)
    (funext fun a => Fin.ext (win0_1.rect_emb_val_of_index_zero t a ((index_rest t).1 a) y))
theorem block_sums (t : Fin cfg0.N) : (iblk (F := Ideal) m c 2 t : Vec Ideal S5200x256 .f32) = V (F := Ideal) m c main_v18 :=
  funext fun y => congrArg (V (F := Ideal) m c main_v18 : Vec Ideal S5200x256 .f32)
    (funext fun a => Fin.ext (win0_2.rect_emb_val_of_index_zero t a ((index_rest t).2.1 a) y))
theorem block_prod (t : Fin cfg0.N) : (iblk (F := Ideal) m c 3 t : Vec Ideal S40x5120 .f32) = V (F := Ideal) m c main_v12 :=
  funext fun y => congrArg (V (F := Ideal) m c main_v12 : Vec Ideal S40x5120 .f32)
    (funext fun a => Fin.ext (win0_3.rect_emb_val_of_index_zero t a ((index_rest t).2.2.1 a) y))
theorem block_pos (t : Fin cfg0.N) : (iblk (F := Ideal) m c 4 t : Vec Ideal S200x128 .f32) = V (F := Ideal) m c main_cst :=
  funext fun y => congrArg (V (F := Ideal) m c main_cst : Vec Ideal S200x128 .f32)
    (funext fun a => Fin.ext (win0_4.rect_emb_val_of_index_zero t a ((index_rest t).2.2.2 a) y))

/-! ## The block's value -/

/-- The count of a position: the sum of its twenty-six mask words. -/
theorem count_value (t : Fin cfg0.N) (b : Fin 128) (l : Fin 200) :
    count (iblk (F := Ideal) m c 0 t) (iblk (F := Ideal) m c 2 t) b ⟨l.val, by omega⟩
      = ∑ f : Fin 26, (((maskA m c (ix3 ⟨t.val * 128 + b.val, by have := point_lt t; omega⟩ l f)).toInt : ℝ) : EReal) := by
  unfold count
  rw [block_sums]
  refine (Finset.sum_congr rfl fun q _ => ?_).trans
    ((Cert.Hand.sum_rows (fun q => ((((V (F := Ideal) m c main_v19 : IVec S1024x5200 32)
      (ix2 ⟨t.val * 128 + b.val, by have := point_lt t; omega⟩ q)).toInt : ℝ) : EReal)) l.val l.isLt).trans (Finset.sum_congr rfl fun f _ => ?_))
  · exact congrArg₂ (· * ·) (congrArg (fun w : BitVec 32 => ((w.toInt : ℝ) : EReal)) (block_mask m c t b q)) (V_sums m c q ⟨l.val, by omega⟩)
  · exact congrArg (fun w : BitVec 32 => ((w.toInt : ℝ) : EReal)) (V_mask m c ⟨t.val * 128 + b.val, by have := point_lt t; omega⟩ l f)

/-- A cell of a group of the point's block. -/
theorem cell_value (t : Fin cfg0.N) (j : Fin 5) (b : Fin 128) (r : Fin 40) (d : Fin 128) :
    cell (iblk (F := Ideal) m c 0 t) (iblk (F := Ideal) m c 1 t) (iblk (F := Ideal) m c 2 t) (iblk (F := Ideal) m c 3 t) (iblk (F := Ideal) m c 4 t) j b r d
      = atIndex m c ⟨t.val * 128 + b.val, by have := point_lt t; omega⟩ ⟨40 * j.val + r.val, by omega⟩ d := by
  unfold cell atIndex
  rw [block_tab, block_prod, block_pos]
  refine congrArg₂ (· + ·) ?_ (congrArg₂ (· + ·) (V_pos m c ⟨40 * j.val + r.val, by omega⟩ d) (congrFun (V_main_arg1 m c) (ix2 0 d)))
  refine (Finset.sum_congr rfl fun k _ => ?_).trans
    ((Cert.Hand.sum_unit (fun k => ∑ f : Fin 26, (((maskA m c (ix3 ⟨t.val * 128 + b.val, by have := point_lt t; omega⟩
      ⟨40 * j.val + k.val, by omega⟩ f)).toInt : ℝ) : EReal)) r (tabA m c (ix2 1 d) - tabA m c (ix2 0 d)) inv26))
  exact congrArg₂ (· * ·) (count_value m c t b ⟨40 * j.val + k.val, by omega⟩) (congrArg (· * inv26) (V_prod m c k r d))

/-- The whole result array. -/
def whole : Buf (Elt Ideal) ((c.tc : Thread nD τ).loc main_v20) :=
  fun i : S1024x200x128.Idx => atIndex m c (i 0) (i 1) (i 2)

/-- `whole` at an index given by its coordinates' values. -/
theorem whole_at (i : S1024x200x128.Idx) (b : Fin 1024) (l : Fin 200) (d : Fin 128)
    (h0 : (i 0).val = b.val) (h1 : (i 1).val = l.val) (h2 : (i 2).val = d.val) : whole m c i = atIndex m c b l d := by
  obtain rfl : i 0 = b := Fin.ext h0
  obtain rfl : i 1 = l := Fin.ext h1
  obtain rfl : i 2 = d := Fin.ext h2
  rfl

/-- The body's result at a point, in terms of the arguments. -/
theorem out_value (t : Fin cfg0.N) (y : S128x200x128.Idx) :
    out0_5 (F := Ideal) (iblk m c 0 t) (iblk m c 1 t) (iblk m c 2 t) (iblk m c 3 t) (iblk m c 4 t) y
      = atIndex m c ⟨t.val * 128 + (y 0).val, by have := point_lt t; have : (y 0).val < 128 := (y 0).isLt; omega⟩ (y 1) (y 2) := by
  obtain ⟨b, l, d, rfl⟩ : ∃ (b : Fin 128) (l : Fin 200) (d : Fin 128), y = ix3 b l d := ⟨y 0, y 1, y 2, eq_ix3 y⟩
  rw [out_apply]
  refine (cell_value m c t ⟨l.val / 40, by omega⟩ b ⟨l.val % 40, by omega⟩ d).trans ?_
  exact congrArg (fun l' => atIndex m c _ l' d) (Fin.ext (by show 40 * (l.val / 40) + l.val % 40 = l.val; omega))

/-- Where a point's block lies in the array. -/
theorem emb_out (t : Fin cfg0.N) (y : (win0_5.xblock (grid0.coords t)).Idx) :
    ((win0_5.rect t).emb y 0).val = t.val * 128 + (y 0).val ∧ ((win0_5.rect t).emb y 1).val = (y 1).val
      ∧ ((win0_5.rect t).emb y 2).val = (y 2).val :=
  ⟨(win0_5.rect_emb_val t y 0).trans (by rw [(index_out t).1]; rfl),
    win0_5.rect_emb_val_of_index_zero t 1 (index_out t).2.1 y, win0_5.rect_emb_val_of_index_zero t 2 (index_out t).2.2 y⟩

/-- What a point writes back is its block of `whole`. -/
theorem flushed_whole (t : Fin cfg0.N) :
    (dats (F := Ideal) m 0 c).flushed 5 t = ((cfg0.win 5).blk t).view.read (Elt Ideal) (whole m c) := by
  refine (Cert.KernelIdeal.Value.flushed5 m c t).trans (funext fun y => ?_)
  obtain ⟨h0, h1, h2⟩ := emb_out t y
  exact (out_value m c t y).trans (whole_at m c ((win0_5.rect t).emb y) _ _ _ h0 h1 h2).symm

/-- An index is in point `t`'s block exactly when its batch row is among the point's 128. -/
theorem mem_block (t : Fin cfg0.N) (i : S1024x200x128.Idx) :
    i ∈ ((cfg0.win 5).blk t).view.set ↔ t.val * 128 ≤ (i 0).val ∧ (i 0).val < t.val * 128 + 128 := by
  show i ∈ ((View.whole main_v20).slice (win0_5.rect t)).set ↔ _
  rw [View.set_slice_whole, Rect.mem_set_unit]
  obtain ⟨e0, e1, e2⟩ := index_out t
  have h1 : (i 1).val < 200 := (i 1).isLt
  have h2 : (i 2).val < 128 := (i 2).isLt
  constructor
  · intro h
    have h0 : win0_5.index t 0 * 128 ≤ (i 0).val ∧ (i 0).val < win0_5.index t 0 * 128 + 128 := h 0
    rwa [e0] at h0
  · intro h a
    fin_cases a
    · show win0_5.index t 0 * 128 ≤ (i 0).val ∧ (i 0).val < win0_5.index t 0 * 128 + 128
      rwa [e0]
    · show win0_5.index t 1 * 200 ≤ (i 1).val ∧ (i 1).val < win0_5.index t 1 * 200 + 200
      rw [e1]; omega
    · show win0_5.index t 2 * 128 ≤ (i 2).val ∧ (i 2).val < win0_5.index t 2 * 128 + 128
      rw [e2]; omega

/-- The eight blocks tile the array. -/
theorem covered (i : S1024x200x128.Idx) : ∃ t : Fin cfg0.N, (cfg0.win 5).flush t = true ∧ i ∈ ((cfg0.win 5).blk t).view.set := by
  have h0 : (i 0).val < 1024 := (i 0).isLt
  refine ⟨⟨(i 0).val / 128, by rw [show cfg0.N = 8 from N_0]; omega⟩, flush0_5 _, (mem_block _ i).mpr ?_⟩
  show (i 0).val / 128 * 128 ≤ (i 0).val ∧ (i 0).val < (i 0).val / 128 * 128 + 128
  omega

/-- After the run the result array is `whole`. -/
theorem final : (dats (F := Ideal) m 0 c).arrAt 5 cfg0.N = whole m c :=
  (dats (F := Ideal) m 0 c).arrAt_eq_of_cover 5 (whole m c) (fun t _ => flushed_whole m c t) covered

/-- The run, read: the result array is `whole`, the arguments are unchanged. -/
theorem run_whole : θ_run defs (onTc (τ := τ) (main (F := Ideal))) ⟨m, fun _ => 0, ρ⟩ fun r => ∀ c : Dev nD,
      r.2.mem ((c.tc : Thread nD τ).loc main_v20) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.KernelIdeal.Value.run_blocks m ρ)

end Cert.KernelIdeal.Hand

end
-- ==== Proof.Reference.lean ====
/- What the reference computes, read at an index: the mean over the twenty-six features of the table rows the mask words
   pick, plus the positional term. -/
module

public import proofs.«01_k».proof.Proof.Gen.ReferenceIdeal.Run
public import Idealize.ShloMosaic.Lib.Pointwise
public import Idealize.ShloMosaic.Lib.ReduceAll

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open scoped BigOperators

/-- The gather's dimension numbers: the index word picks a row, the slice is the whole row. -/
abbrev pickDims : GatherDims S2x128 S1024x200x26x1 S1024x200x26x128 := gather_S2x128_S1024x200x26x1_S1024x200x26x128_3_0_n_n_0_3_1128

/-- The gather's start on the row axis: the index word, clamped to the two rows. -/
theorem pick_row (idx : IVec S1024x200x26x1 32) (b : Fin 1024) (l : Fin 200) (f : Fin 26) (d : Fin 128) :
    pickDims.start (ix4 b l f d) idx 0 = min (idx (ix4 b l f 0)).toInt.toNat 1 := by
  have hmem : (0 : Fin 2) ∈ pickDims.startIndexMap := by decide
  have hat : pickDims.siIdx (ix4 b l f d) ⟨pickDims.startIndexMap.idxOf 0, List.idxOf_lt_length_iff.2 hmem⟩ = ix4 b l f 0 :=
    funext fun a => Fin.ext (by fin_cases a <;> rfl)
  unfold GatherDims.start
  rw [dif_pos hmem, hat]
  rfl

/-- The gather read at an index: the picked row's element. -/
theorem pick_apply (tb : FVec Ideal S2x128 .f32) (idx : IVec S1024x200x26x1 32) (b : Fin 1024) (l : Fin 200) (f : Fin 26) (d : Fin 128) :
    Host.gather pickDims tb idx (ix4 b l f d) = tb (ix2 ⟨min (idx (ix4 b l f 0)).toInt.toNat 1, by omega⟩ d) := by
  refine congrArg tb (funext fun a => Fin.ext ?_)
  show pickDims.start (ix4 b l f d) idx a + pickDims.batchCoord (ix4 b l f d) a + pickDims.offCoord (ix4 b l f d) a = _
  rw [pickDims.batchCoord_eq_zero _ _ (by decide +revert)]
  fin_cases a
  · have ho : pickDims.offCoord (ix4 b l f d) (0 : Fin 2) = 0 := pickDims.offCoord_eq_zero _ _ (by decide)
    have hs := pick_row idx b l f d
    show pickDims.start (ix4 b l f d) idx (0 : Fin 2) + 0 + pickDims.offCoord (ix4 b l f d) (0 : Fin 2) = _
    rw [ho, hs]; rfl
  · have hs : pickDims.start (ix4 b l f d) idx (1 : Fin 2) = 0 := by
      unfold GatherDims.start; rw [dif_neg (by decide)]
    show pickDims.start (ix4 b l f d) idx (1 : Fin 2) + 0 + pickDims.offCoord (ix4 b l f d) (1 : Fin 2) = _
    rw [hs]
    unfold GatherDims.offCoord
    rw [dif_pos (by decide)]
    exact (Nat.zero_add _).trans rfl

variable (x : IVec S1024x200x26 32) (tb : FVec Ideal S2x128 .f32)

/-- The index words: a negative one wrapped by the number of rows, with a trailing axis of one. -/
def wrapped : IVec S1024x200x26x1 32 :=
  broadcastInDim S1024x200x26x1 ![0, 1, 2] bcast_S1024x200x26_S1024x200x26x1_0_1_2
    (select (cmpi .slt x (broadcastInDim S1024x200x26 ![] bcast_S_S1024x200x26 (constantI S_ 32 0#32)))
      (addi x (broadcastInDim S1024x200x26 ![] bcast_S_S1024x200x26 (constantI S_ 32 2#32))) x)

/-- Which index words are rows of the table. -/
def inRange : IVec S1024x200x26x1 1 :=
  andi (cmpi .sge (wrapped x) (broadcastInDim S1024x200x26x1 ![] bcast_S_S1024x200x26x1 (constantI S_ 32 0#32)))
    (cmpi .sle (wrapped x) (broadcastInDim S1024x200x26x1 ![0, 1, 2, 3] bcast_S1x1x1x1_S1024x200x26x1_0_1_2_3
      (broadcastInDim S1x1x1x1 ![3] bcast_S1_S1x1x1x1_3 (constantI S1 32 1#32))))

/-- The picked rows, with the fill value where an index word is no row. -/
def rows : FVec Ideal S1024x200x26x128 .f32 :=
  select (broadcastInDim S1024x200x26x128 ![0, 1, 2] bcast_S1024x200x26_S1024x200x26x128_0_1_2
      (Host.reduce IntOp.andi (inRange x) (constantI S_ 1 1#1) reducesTo_S1024x200x26x1_S1024x200x26_d3 h_S_))
    (Host.gather pickDims tb (wrapped x)) (broadcastInDim S1024x200x26x128 ![] bcast_S_S1024x200x26x128 (constant S_ .f32 0x7FC00000#32))

/-- The reference's result. -/
def result : FVec Ideal S1024x200x128 .f32 :=
  addf (Host.divf (Host.reduceAdd (rows x tb) (constant S_ .f32 0x00000000#32) reducesTo_S1024x200x26x128_S1024x200x128_d2 h_S_)
      (broadcastInDim S1024x200x128 ![] bcast_S_S1024x200x128 (constant S_ .f32 0x41D00000#32)))
    (broadcastInDim S1024x200x128 ![0, 1, 2] bcast_S1x200x128_S1024x200x128_0_1_2
      (extractStridedSlice S1x200x128 ![0, 0, 0]
        (broadcastInDim S1x500x128 ![1, 2] bcast_S500x128_S1x500x128_1_2 (fun i => FloatOps.ofBits .f32 (lit0 (S500x128.rowMajor i))))
        slices_S1x500x128_S1x200x128_0_0_0))

/-- The word for twenty-six. -/
theorem val26 : Ideal.ofBits .f32 0x41D00000#32 = ((26 : ℝ) : EReal) := by
  simp [Ideal.ofBits, Ideal.ieee, -EReal.coe_mul]
  norm_num

variable (h01 : ∀ i, x i = 0#32 ∨ x i = 1#32)

include h01

/-- A mask word is its own index word. -/
theorem wrapped_apply (b : Fin 1024) (l : Fin 200) (f : Fin 26) (z : Fin 1) : wrapped x (ix4 b l f z) = x (ix3 b l f) := by
  pointwise [wrapped]
  rcases h01 (ix3 b l f) with e | e <;> rw [e] <;> rfl

/-- Every mask word is a row of the table. -/
theorem inRange_apply (i : S1024x200x26x1.Idx) : inRange x i = 1#1 := by
  obtain ⟨b, l, f, z, rfl⟩ : ∃ (b : Fin 1024) (l : Fin 200) (f : Fin 26) (z : Fin 1), i = ix4 b l f z := ⟨i 0, i 1, i 2, i 3, eq_ix4 i⟩
  pointwise [inRange, wrapped_apply x h01]
  rcases h01 (ix3 b l f) with e | e <;> rw [e] <;> rfl

/-- The picked rows at an index: row 1 where the mask word is 1, row 0 where it is 0. -/
theorem rows_apply (b : Fin 1024) (l : Fin 200) (f : Fin 26) (d : Fin 128) :
    rows x tb (ix4 b l f d) = if x (ix3 b l f) = 1#32 then tb (ix2 1 d) else tb (ix2 0 d) := by
  have hr : Host.reduce IntOp.andi (inRange x) (constantI S_ 1 1#1) reducesTo_S1024x200x26x1_S1024x200x26_d3 h_S_ (ix3 b l f) = 1#1 :=
    Host.reduce_andi_one _ _ _ _ _ rfl (inRange_apply x h01)
  unfold rows
  pointwise [hr, pick_apply, wrapped_apply x h01]
  rcases h01 (ix3 b l f) with e | e
  · rw [if_neg (by rw [e]; decide)]
    exact congrArg (fun r => tb (ix2 r d)) (Fin.ext (by show min (x (ix3 b l f)).toInt.toNat 1 = 0; rw [e]; decide))
  · rw [if_pos e]
    exact congrArg (fun r => tb (ix2 r d)) (Fin.ext (by show min (x (ix3 b l f)).toInt.toNat 1 = 1; rw [e]; decide))

/-- THE REFERENCE AT AN INDEX. -/
theorem result_apply (b : Fin 1024) (l : Fin 200) (d : Fin 128) :
    result x tb (ix3 b l d)
      = Ideal.div (∑ f : Fin 26, if x (ix3 b l f) = 1#32 then tb (ix2 1 d) else tb (ix2 0 d)) ((26 : ℝ) : EReal)
        + Ideal.ofBits .f32 (lit0 (S500x128.rowMajor (ix2 ⟨l.val, by omega⟩ d))) := by
  unfold result
  pointwise [rows_apply x tb h01, val26]

omit h01

/-- The reference's run ends with that result in its buffer, its arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.ReferenceIdeal.Hand

end
-- ==== Proof.Table.lean ====
/- The positional table is printed with the kernel, 200 rows of it, and with the reference, all 500: the kernel's words are
   the reference's first ones. -/
module

public import proofs.«01_k».proof.KernelIdeal
public import proofs.«01_k».proof.ReferenceIdeal

@[expose] public section

namespace Cert.Hand

/-- Rows 0 … 127. -/
theorem table_first : Cert.KernelIdeal.lit0t1_0 = Cert.ReferenceIdeal.lit0t1_0 := rfl

/-- Rows 128 … 199. -/
theorem table_second (i : ℕ) (h : i / 128 % 128 < 72) : Cert.KernelIdeal.lit0t1_1 i = Cert.ReferenceIdeal.lit0t1_1 i := by
  unfold Cert.KernelIdeal.lit0t1_1 Cert.ReferenceIdeal.lit0t1_1
  generalize i / 128 % 128 = q at h
  interval_cases q <;> rfl

/-- The kernel's table is the first 25600 words of the reference's. -/
theorem table_eq (i : Fin 25600) : Cert.KernelIdeal.lit0 i = Cert.ReferenceIdeal.lit0 ⟨i.val, by omega⟩ := by
  have hi := i.isLt
  unfold Cert.KernelIdeal.lit0 Cert.ReferenceIdeal.lit0 Cert.KernelIdeal.lit0t Cert.ReferenceIdeal.lit0t
  rcases (by omega : i.val / 16384 = 0 ∨ i.val / 16384 = 1) with e | e
  · simp only [e]; exact congrFun table_first i.val
  · simp only [e]; exact table_second i.val (by omega)

end Cert.Hand
-- ==== Proof.Pre.lean ====
/- What the precondition says: every mask word is 0 or 1, and the table's row 0 is finite. -/
module

public import proofs.«01_k».proof.Proof.Gen.Pre_pre
public import Idealize.ShloMosaic.Lib.Pointwise
public import Idealize.ShloMosaic.Lib.ReduceAll

@[expose] public section

set_option maxRecDepth 16384

noncomputable section

namespace Cert.Pre_pre.Hand

open Cert.Pre_pre Cert.Pre_pre.Gen Idealize.ShloMosaic

/-- A result of rank zero has one index. -/
instance : Subsingleton S_.Idx := ⟨fun a b => funext fun i => i.elim0⟩

/-- The word for plus infinity. -/
theorem inf_val : Ideal.ofBits .f32 0x7F800000#32 = ⊤ := by
  simp [Ideal.ofBits, Ideal.ieee]

variable (x : IVec S1024x200x26 32) (tb : FVec Ideal S2x128 .f32) (h : Cert.Pre_pre.fn (F := Ideal) x tb = fun _ => 1#1)

include h

/-- The printed precondition's two halves. -/
theorem halves : (∀ i, (0 : ℤ) ≤ (x i).toInt ∧ (x i).toInt < 2) ∧ ∀ d : Fin 128, ∃ r : ℝ, tb (ix2 0 d) = (r : EReal) := by
  have h0 := congrFun h (fun i => i.elim0)
  dsimp only [fn] at h0
  obtain ⟨h1, h2⟩ := IntOp.andi_eq_one.mp h0
  constructor
  · intro i
    obtain ⟨ha, hb⟩ := IntOp.andi_eq_one.mp (Host.reduce_andi_all _ _ _ _ _ h1 i)
    have ha := IntOp.cmpi_sge.mp ha
    have hb := IntOp.cmpi_slt.mp hb
    exact ⟨ha, hb⟩
  · intro d
    have hd := Host.reduce_andi_all _ _ _ _ _ h2 (ix1 d)
    revert hd
    pointwise [inf_val]
    intro hd
    have hlt : max (tb (ix2 0 d)) (-tb (ix2 0 d)) < ⊤ := by
      by_contra hn
      exact absurd hd (by rw [show decide (FloatOps.absf (tb (ix2 0 d)) < ⊤) = false from decide_eq_false hn]; decide)
    revert hlt
    generalize tb (ix2 0 d) = v
    induction v using EReal.rec with
    | coe r => exact fun _ => ⟨r, rfl⟩
    | top => exact fun hv => absurd hv (by simp)
    | bot => exact fun hv => absurd hv (by simp)

/-- Each mask word is 0 or 1. -/
theorem mask_01 (i : S1024x200x26.Idx) : x i = 0#32 ∨ x i = 1#32 := by
  obtain ⟨ha, hb⟩ := (halves x tb h).1 i
  rcases (by omega : (x i).toInt = 0 ∨ (x i).toInt = 1) with e | e
  · exact Or.inl (BitVec.eq_of_toInt_eq (e.trans (by decide)))
  · exact Or.inr (BitVec.eq_of_toInt_eq (e.trans (by decide)))

/-- Row 0 of the table is finite. -/
theorem row0_real (d : Fin 128) : ∃ r : ℝ, tb (ix2 0 d) = (r : EReal) := (halves x tb h).2 d

end Cert.Pre_pre.Hand

end
-- ==== Proof.Equation.lean ====
/- The equation: where the mask words are 0 or 1 and the table's row 0 is finite, the kernel's array is the reference's. -/
module

public import proofs.«01_k».proof.Proof.Array
public import proofs.«01_k».proof.Proof.Reference
public import proofs.«01_k».proof.Proof.Table
public import proofs.«01_k».proof.Proof.Pre

@[expose] public section

set_option maxRecDepth 16384

noncomputable section

namespace Cert.Hand

open Idealize.ShloMosaic Idealize.ShloMosaic.TcCoe
open Cert.KernelIdeal.Hand (maskA tabA atIndex whole inv26)
open scoped BigOperators

/-- A mask word 0 or 1 as a number. -/
theorem word_value (w : BitVec 32) (h : w = 0#32 ∨ w = 1#32) : ((w.toInt : ℝ) : EReal) = if w = 1#32 then 1 else 0 := by
  rcases h with rfl | rfl
  · rw [if_neg (by decide)]; simp
  · rw [if_pos rfl, show (1#32 : BitVec 32).toInt = 1 from by decide]; simp

/-- The kernel's table and the reference's hold the same word at a position. -/
theorem position_eq (l : Fin 200) (d : Fin 128) :
    Cert.KernelIdeal.lit0 (Cert.KernelIdeal.S200x128.rowMajor (ix2 l d))
      = Cert.ReferenceIdeal.lit0 (Cert.ReferenceIdeal.S500x128.rowMajor (ix2 ⟨l.val, by omega⟩ d)) := by
  refine (table_eq _).trans (congrArg Cert.ReferenceIdeal.lit0 (Fin.ext ?_))
  exact (Shape.rowMajor_val_two (d := ![200, 128]) (ix2 l d)).trans (Shape.rowMajor_val_two (d := ![500, 128]) (ix2 ⟨l.val, by omega⟩ d)).symm

variable (m : (ℓ : Loc Cert.KernelIdeal.nD Cert.KernelIdeal.τ Cert.KernelIdeal.sig) → Buf (Elt Ideal) ℓ) (c : Dev Cert.KernelIdeal.nD)
  (h : Cert.Pre_pre.fn (F := Ideal) (maskA m c) (tabA m c) = fun _ => 1#1)

include h

/-- One element of the kernel's array is the reference's. -/
theorem element_eq (b : Fin 1024) (l : Fin 200) (d : Fin 128) :
    atIndex m c b l d = Cert.ReferenceIdeal.Hand.result (maskA m c) (tabA m c) (ix3 b l d) := by
  have h01 := Cert.Pre_pre.Hand.mask_01 (maskA m c) (tabA m c) h
  obtain ⟨e0, he0⟩ := Cert.Pre_pre.Hand.row0_real (maskA m c) (tabA m c) h d
  rw [Cert.ReferenceIdeal.Hand.result_apply (maskA m c) (tabA m c) h01 b l d]
  unfold atIndex
  rw [Finset.sum_congr rfl fun f _ => word_value _ (h01 (ix3 b l f)), he0, position_eq]
  exact mean_law (fun f => maskA m c (ix3 b l f) = 1#32) e0 _ _

/-- The kernel's array is the reference's. -/
theorem array_eq : whole m c = Cert.ReferenceIdeal.Hand.result (maskA m c) (tabA m c) := by
  funext i
  obtain ⟨b, l, d, rfl⟩ : ∃ (b : Fin 1024) (l : Fin 200) (d : Fin 128), i = ix3 b l d := ⟨i 0, i 1, i 2, eq_ix3 i⟩
  exact element_eq m c h b l d

end Cert.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_pre
public import proofs.«01_k».proof.Proof.Equation
public import Idealize.ShloMosaic.Lib.Quiescent

@[expose] public section

noncomputable section

namespace Cert.Proof

open Idealize.ShloMosaic Idealize.ShloMosaic.TcCoe Idealize.SL.Sem

/-- The reference's frame: it runs, its arguments end unchanged, and it has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r hr => ⟨fun c => (hr c).2, sem_eq_zero_of_no_sems (by decide) r.2⟩)
    (Cert.ReferenceIdeal.Hand.run_result m ρ)

/-- THE VALUE CLAIM: both programs end with the same array. -/
theorem algebraic : Cert.algebraic_KernelIdeal_ReferenceIdeal_pre_pre := by
  intro m g m' g' hpre hargs
  refine ⟨fun c => Cert.KernelIdeal.Hand.whole m c, Cert.KernelIdeal.Hand.run_whole m g, ?_⟩
  refine (θ_run Cert.ReferenceIdeal.defs _ _).mono (fun r hr c => ⟨(hr c).1.trans ?_, (hr c).2⟩)
    (Cert.ReferenceIdeal.Hand.run_result m' g')
  rw [(hargs c).1, (hargs c).2]
  exact (Cert.Hand.array_eq m c (hpre c)).symm

theorem claim : Cert.Claim :=
  ⟨Cert.Kernel.Gen.facts, Cert.KernelIdeal.Gen.facts, Cert.ReferenceIdeal.Gen.facts, Cert.Pre_pre.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "inv_f" .f32 0x3D1D89D9#32 ((26⁻¹ : ℝ) : EReal) rfl,
    algebraic⟩

end Cert.Proof

end
